-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x3x96x96 : Shape := ⟨4, ![1024, 3, 96, 96]⟩
abbrev S8x3x3x3 : Shape := ⟨4, ![8, 3, 3, 3]⟩
abbrev S800x1024 : Shape := ⟨2, ![800, 1024]⟩
abbrev S1024 : Shape := ⟨1, ![1024]⟩
abbrev S15x1024 : Shape := ⟨2, ![15, 1024]⟩
abbrev S15 : Shape := ⟨1, ![15]⟩
abbrev S32x15 : Shape := ⟨2, ![32, 15]⟩
abbrev S32 : Shape := ⟨1, ![32]⟩
abbrev S1x32 : Shape := ⟨2, ![1, 32]⟩
abbrev S1 : Shape := ⟨1, ![1]⟩
abbrev S96x3x10 : Shape := ⟨3, ![96, 3, 10]⟩
abbrev S800 : Shape := ⟨1, ![800]⟩
abbrev S96x10x8x3x3 : Shape := ⟨5, ![96, 10, 8, 3, 3]⟩
abbrev S3x3x96x8x10 : Shape := ⟨5, ![3, 3, 96, 8, 10]⟩
abbrev S3x288x80 : Shape := ⟨3, ![3, 288, 80]⟩
abbrev S_ : Shape := ⟨0, ![]⟩
abbrev S3x384x80 : Shape := ⟨3, ![3, 384, 80]⟩
abbrev S1152x80 : Shape := ⟨2, ![1152, 80]⟩
abbrev S8x3x2x3 : Shape := ⟨4, ![8, 3, 2, 3]⟩
abbrev S96x10x8x3x2 : Shape := ⟨5, ![96, 10, 8, 3, 2]⟩
abbrev S3x2x96x8x10 : Shape := ⟨5, ![3, 2, 96, 8, 10]⟩
abbrev S3x192x80 : Shape := ⟨3, ![3, 192, 80]⟩
abbrev S800x1 : Shape := ⟨2, ![800, 1]⟩
abbrev S1024x27648 : Shape := ⟨2, ![1024, 27648]⟩
abbrev S1x1024 : Shape := ⟨2, ![1, 1024]⟩
abbrev S1x15 : Shape := ⟨2, ![1, 15]⟩
abbrev S128x32 : Shape := ⟨2, ![128, 32]⟩
abbrev S1x1 : Shape := ⟨2, ![1, 1]⟩
abbrev S1024x128 : Shape := ⟨2, ![1024, 128]⟩
abbrev S128x27648 : Shape := ⟨2, ![128, 27648]⟩
abbrev S128x128 : Shape := ⟨2, ![128, 128]⟩
abbrev S128x384 : Shape := ⟨2, ![128, 384]⟩
abbrev S128x1152 : Shape := ⟨2, ![128, 1152]⟩
abbrev S128x80 : Shape := ⟨2, ![128, 80]⟩
abbrev S128x800 : Shape := ⟨2, ![128, 800]⟩
abbrev S128x1024 : Shape := ⟨2, ![128, 1024]⟩
abbrev S128x512 : Shape := ⟨2, ![128, 512]⟩
abbrev S128x15 : Shape := ⟨2, ![128, 15]⟩
abbrev S1024x1 : Shape := ⟨2, ![1024, 1]⟩

abbrev nBuf : Space → Nat
  | .hbm => 50
  | .vmem => 14
  | .smem => 1
  | _ => 0

abbrev bufTy : (tb : Table) → Fin (tcTables nBuf tb) → BufTy
  | .hbm, ⟨0, _⟩ => ⟨S1024x3x96x96, .f32⟩
  | .hbm, ⟨1, _⟩ => ⟨S8x3x3x3, .f32⟩
  | .hbm, ⟨2, _⟩ => ⟨S800x1024, .f32⟩
  | .hbm, ⟨3, _⟩ => ⟨S1024, .f32⟩
  | .hbm, ⟨4, _⟩ => ⟨S15x1024, .f32⟩
  | .hbm, ⟨5, _⟩ => ⟨S15, .f32⟩
  | .hbm, ⟨6, _⟩ => ⟨S32x15, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S96x3x10, .f32⟩
  | .hbm, ⟨11, _⟩ => ⟨S800, .i32⟩
  | .hbm, ⟨12, _⟩ => ⟨S96x10x8x3x3, .f32⟩
  | .hbm, ⟨13, _⟩ => ⟨S3x3x96x8x10, .f32⟩
  | .hbm, ⟨14, _⟩ => ⟨S3x288x80, .f32⟩
  | .hbm, ⟨15, _⟩ => ⟨S_, .i32⟩
  | .hbm, ⟨16, _⟩ => ⟨S_, .f32⟩
  | .hbm, ⟨17, _⟩ => ⟨S3x384x80, .f32⟩
  | .hbm, ⟨18, _⟩ => ⟨S1152x80, .f32⟩
  | .hbm, ⟨19, _⟩ => ⟨S_, .i32⟩
  | .hbm, ⟨20, _⟩ => ⟨S_, .f32⟩
  | .hbm, ⟨21, _⟩ => ⟨S3x384x80, .f32⟩
  | .hbm, ⟨22, _⟩ => ⟨S1152x80, .f32⟩
  | .hbm, ⟨23, _⟩ => ⟨S8x3x2x3, .f32⟩
  | .hbm, ⟨24, _⟩ => ⟨S96x10x8x3x2, .f32⟩
  | .hbm, ⟨25, _⟩ => ⟨S3x2x96x8x10, .f32⟩
  | .hbm, ⟨26, _⟩ => ⟨S3x192x80, .f32⟩
  | .hbm, ⟨27, _⟩ => ⟨S_, .i32⟩
  | .hbm, ⟨28, _⟩ => ⟨S_, .f32⟩
  | .hbm, ⟨29, _⟩ => ⟨S3x384x80, .f32⟩
  | .hbm, ⟨30, _⟩ => ⟨S1152x80, .f32⟩
  | .hbm, ⟨31, _⟩ => ⟨S_, .i32⟩
  | .hbm, ⟨32, _⟩ => ⟨S800, .i32⟩
  | .hbm, ⟨33, _⟩ => ⟨S800, .i1⟩
  | .hbm, ⟨34, _⟩ => ⟨S_, .i32⟩
  | .hbm, ⟨35, _⟩ => ⟨S800, .i32⟩
  | .hbm, ⟨36, _⟩ => ⟨S800, .i32⟩
  | .hbm, ⟨37, _⟩ => ⟨S800, .i32⟩
  | .hbm, ⟨38, _⟩ => ⟨S800x1, .i32⟩
  | .hbm, ⟨39, _⟩ => ⟨S800x1024, .f32⟩
  | .hbm, ⟨40, _⟩ => ⟨S1024x27648, .f32⟩
  | .hbm, ⟨41, _⟩ => ⟨S1x1024, .f32⟩
  | .hbm, ⟨42, _⟩ => ⟨S1x15, .f32⟩
  | .hbm, ⟨43, _⟩ => ⟨S1x32, .f32⟩
  | .hbm, ⟨44, _⟩ => ⟨S_, .i32⟩
  | .hbm, ⟨45, _⟩ => ⟨S_, .f32⟩
  | .hbm, ⟨46, _⟩ => ⟨S128x32, .f32⟩
  | .hbm, ⟨47, _⟩ => ⟨S1x1, .f32⟩
  | .hbm, ⟨48, _⟩ => ⟨S1024x128, .f32⟩
  | .hbm, ⟨49, _⟩ => ⟨S1024x1, .f32⟩
  | .local _ .vmem, ⟨0, _⟩ => ⟨S128x27648, .f32⟩
  | .local _ .vmem, ⟨1, _⟩ => ⟨S128x27648, .f32⟩
  | .local _ .vmem, ⟨2, _⟩ => ⟨S1152x80, .f32⟩
  | .local _ .vmem, ⟨3, _⟩ => ⟨S1152x80, .f32⟩
  | .local _ .vmem, ⟨4, _⟩ => ⟨S1152x80, .f32⟩
  | .local _ .vmem, ⟨5, _⟩ => ⟨S800x1024, .f32⟩
  | .local _ .vmem, ⟨6, _⟩ => ⟨S1x1024, .f32⟩
  | .local _ .vmem, ⟨7, _⟩ => ⟨S15x1024, .f32⟩
  | .local _ .vmem, ⟨8, _⟩ => ⟨S1x15, .f32⟩
  | .local _ .vmem, ⟨9, _⟩ => ⟨S32x15, .f32⟩
  | .local _ .vmem, ⟨10, _⟩ => ⟨S1x32, .f32⟩
  | .local _ .vmem, ⟨11, _⟩ => ⟨S128x32, .f32⟩
  | .local _ .vmem, ⟨12, _⟩ => ⟨S128x128, .f32⟩
  | .local _ .vmem, ⟨13, _⟩ => ⟨S128x128, .f32⟩
  | .local _ .smem, ⟨0, _⟩ => ⟨S1x1, .f32⟩
  | _, _ => ⟨S1024x3x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_call1_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_call2_v0 : Ref sig .tc := ⟨.hbm, 28, rfl⟩
abbrev main_v11 : Ref sig .tc := ⟨.hbm, 29, rfl⟩
abbrev main_v12 : Ref sig .tc := ⟨.hbm, 30, rfl⟩
abbrev main_c_3 : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_call3_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg11_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x27648 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1152x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1152x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S800x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S15x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x15 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x15 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S1024x3x96x96 : Shape := ⟨4, ![1024, 3, 96, 96]⟩
abbrev S8x3x3x3 : Shape := ⟨4, ![8, 3, 3, 3]⟩
abbrev S800x1024 : Shape := ⟨2, ![800, 1024]⟩
abbrev S1024 : Shape := ⟨1, ![1024]⟩
abbrev S15x1024 : Shape := ⟨2, ![15, 1024]⟩
abbrev S15 : Shape := ⟨1, ![15]⟩
abbrev S32x15 : Shape := ⟨2, ![32, 15]⟩
abbrev S32 : Shape := ⟨1, ![32]⟩
abbrev S1x32 : Shape := ⟨2, ![1, 32]⟩
abbrev S1 : Shape := ⟨1, ![1]⟩
abbrev S_ : Shape := ⟨0, ![]⟩
abbrev S1024x3x100x100 : Shape := ⟨4, ![1024, 3, 100, 100]⟩
abbrev S1024x3x10x10x10x10 : Shape := ⟨6, ![1024, 3, 10, 10, 10, 10]⟩
abbrev S1024x3x10x3x10x3 : Shape := ⟨6, ![1024, 3, 10, 3, 10, 3]⟩
abbrev S1024x10x10x3x3x3 : Shape := ⟨6, ![1024, 10, 10, 3, 3, 3]⟩
abbrev S1024x10x10x27 : Shape := ⟨4, ![1024, 10, 10, 27]⟩
abbrev S8x27 : Shape := ⟨2, ![8, 27]⟩
abbrev S27x8 : Shape := ⟨2, ![27, 8]⟩
abbrev S1024x10x10x8 : Shape := ⟨4, ![1024, 10, 10, 8]⟩
abbrev S1024x8x10x10 : Shape := ⟨4, ![1024, 8, 10, 10]⟩
abbrev S1024x800 : Shape := ⟨2, ![1024, 800]⟩
abbrev S1024x1024 : Shape := ⟨2, ![1024, 1024]⟩
abbrev S1x1024 : Shape := ⟨2, ![1, 1024]⟩
abbrev S1024x512 : Shape := ⟨2, ![1024, 512]⟩
abbrev S1024x15 : Shape := ⟨2, ![1024, 15]⟩
abbrev S1x15 : Shape := ⟨2, ![1, 15]⟩
abbrev S15x32 : Shape := ⟨2, ![15, 32]⟩
abbrev S1024x32 : Shape := ⟨2, ![1024, 32]⟩
abbrev S32x1 : Shape := ⟨2, ![32, 1]⟩
abbrev S1024x1 : Shape := ⟨2, ![1024, 1]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S1024x3x96x96, .f32⟩
  | .hbm, ⟨1, _⟩ => ⟨S8x3x3x3, .f32⟩
  | .hbm, ⟨2, _⟩ => ⟨S800x1024, .f32⟩
  | .hbm, ⟨3, _⟩ => ⟨S1024, .f32⟩
  | .hbm, ⟨4, _⟩ => ⟨S15x1024, .f32⟩
  | .hbm, ⟨5, _⟩ => ⟨S15, .f32⟩
  | .hbm, ⟨6, _⟩ => ⟨S32x15, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S_, .i32⟩
  | .hbm, ⟨11, _⟩ => ⟨S_, .f32⟩
  | .hbm, ⟨12, _⟩ => ⟨S1024x3x100x100, .f32⟩
  | .hbm, ⟨13, _⟩ => ⟨S1024x3x10x10x10x10, .f32⟩
  | .hbm, ⟨14, _⟩ => ⟨S1024x3x10x3x10x3, .f32⟩
  | .hbm, ⟨15, _⟩ => ⟨S1024x10x10x3x3x3, .f32⟩
  | .hbm, ⟨16, _⟩ => ⟨S1024x10x10x27, .f32⟩
  | .hbm, ⟨17, _⟩ => ⟨S8x27, .f32⟩
  | .hbm, ⟨18, _⟩ => ⟨S27x8, .f32⟩
  | .hbm, ⟨19, _⟩ => ⟨S1024x10x10x8, .f32⟩
  | .hbm, ⟨20, _⟩ => ⟨S1024x8x10x10, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1024x8x10x10, .f32⟩
  | .hbm, ⟨25, _⟩ => ⟨S1024x8x10x10, .f32⟩
  | .hbm, ⟨26, _⟩ => ⟨S_, .f32⟩
  | .hbm, ⟨27, _⟩ => ⟨S1024x8x10x10, .f32⟩
  | .hbm, ⟨28, _⟩ => ⟨S1024x8x10x10, .f32⟩
  | .hbm, ⟨29, _⟩ => ⟨S_, .f32⟩
  | .hbm, ⟨30, _⟩ => ⟨S1024x8x10x10, .f32⟩
  | .hbm, ⟨31, _⟩ => ⟨S1024x8x10x10, .f32⟩
  | .hbm, ⟨32, _⟩ => ⟨S_, .f32⟩
  | .hbm, ⟨33, _⟩ => ⟨S1024x8x10x10, .f32⟩
  | .hbm, ⟨34, _⟩ => ⟨S1024x8x10x10, .f32⟩
  | .hbm, ⟨35, _⟩ => ⟨S1024x8x10x10, .f32⟩
  | .hbm, ⟨36, _⟩ => ⟨S1024x8x10x10, .f32⟩
  | .hbm, ⟨37, _⟩ => ⟨S_, .f32⟩
  | .hbm, ⟨38, _⟩ => ⟨S1024x8x10x10, .f32⟩
  | .hbm, ⟨39, _⟩ => ⟨S1024x8x10x10, .f32⟩
  | .hbm, ⟨40, _⟩ => ⟨S_, .f32⟩
  | .hbm, ⟨41, _⟩ => ⟨S1024x8x10x10, .f32⟩
  | .hbm, ⟨42, _⟩ => ⟨S1024x8x10x10, .f32⟩
  | .hbm, ⟨43, _⟩ => ⟨S1024x800, .f32⟩
  | .hbm, ⟨44, _⟩ => ⟨S_, .f32⟩
  | .hbm, ⟨45, _⟩ => ⟨S1024x800, .f32⟩
  | .hbm, ⟨46, _⟩ => ⟨S1024x800, .i1⟩
  | .hbm, ⟨47, _⟩ => ⟨S_, .f32⟩
  | .hbm, ⟨48, _⟩ => ⟨S_, .f32⟩
  | .hbm, ⟨49, _⟩ => ⟨S1024x800, .f32⟩
  | .hbm, ⟨50, _⟩ => ⟨S1024x800, .f32⟩
  | .hbm, ⟨51, _⟩ => ⟨S1024x1024, .f32⟩
  | .hbm, ⟨52, _⟩ => ⟨S1x1024, .f32⟩
  | .hbm, ⟨53, _⟩ => ⟨S1024x1024, .f32⟩
  | .hbm, ⟨54, _⟩ => ⟨S1024x1024, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S1024x1024, .f32⟩
  | .hbm, ⟨59, _⟩ => ⟨S1024x1024, .f32⟩
  | .hbm, ⟨60, _⟩ => ⟨S_, .f32⟩
  | .hbm, ⟨61, _⟩ => ⟨S1024x1024, .f32⟩
  | .hbm, ⟨62, _⟩ => ⟨S1024x1024, .f32⟩
  | .hbm, ⟨63, _⟩ => ⟨S1024x512, .f32⟩
  | .hbm, ⟨64, _⟩ => ⟨S1024x512, .f32⟩
  | .hbm, ⟨65, _⟩ => ⟨S1024x512, .f32⟩
  | .hbm, ⟨66, _⟩ => ⟨S1024x1024, .f32⟩
  | .hbm, ⟨67, _⟩ => ⟨S_, .f32⟩
  | .hbm, ⟨68, _⟩ => ⟨S1024x1024, .f32⟩
  | .hbm, ⟨69, _⟩ => ⟨S1024x1024, .f32⟩
  | .hbm, ⟨70, _⟩ => ⟨S1024x15, .f32⟩
  | .hbm, ⟨71, _⟩ => ⟨S1024x15, .f32⟩
  | .hbm, ⟨72, _⟩ => ⟨S1x15, .f32⟩
  | .hbm, ⟨73, _⟩ => ⟨S1024x15, .f32⟩
  | .hbm, ⟨74, _⟩ => ⟨S1024x15, .f32⟩
  | .hbm, ⟨75, _⟩ => ⟨S_, .f32⟩
  | .hbm, ⟨76, _⟩ => ⟨S1024x15, .f32⟩
  | .hbm, ⟨77, _⟩ => ⟨S1024x15, .f32⟩
  | .hbm, ⟨78, _⟩ => ⟨S15x32, .f32⟩
  | .hbm, ⟨79, _⟩ => ⟨S1024x32, .f32⟩
  | .hbm, ⟨80, _⟩ => ⟨S1x32, .f32⟩
  | .hbm, ⟨81, _⟩ => ⟨S1024x32, .f32⟩
  | .hbm, ⟨82, _⟩ => ⟨S1024x32, .f32⟩
  | .hbm, ⟨83, _⟩ => ⟨S_, .f32⟩
  | .hbm, ⟨84, _⟩ => ⟨S1024x32, .f32⟩
  | .hbm, ⟨85, _⟩ => ⟨S1024x32, .f32⟩
  | .hbm, ⟨86, _⟩ => ⟨S32x1, .f32⟩
  | .hbm, ⟨87, _⟩ => ⟨S1024x1, .f32⟩
  | .hbm, ⟨88, _⟩ => ⟨S1x1, .f32⟩
  | .hbm, ⟨89, _⟩ => ⟨S1024x1, .f32⟩
  | .hbm, ⟨90, _⟩ => ⟨S1024x1, .f32⟩
  | _, _ => ⟨S1024x3x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_call2_v0 : Ref sig .tc := ⟨.hbm, 48, rfl⟩
abbrev main_call2_v1 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_7 : Ref sig .tc := ⟨.hbm, 55, rfl⟩
abbrev main_cst_8 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_9 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_call4_cst : Ref sig .tc := ⟨.hbm, 75, rfl⟩
abbrev main_call4_v0 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_call5_cst : Ref sig .tc := ⟨.hbm, 83, rfl⟩
abbrev main_call5_v0 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩

abbrev nD : Nat := 1
abbrev τ : Topo := Topo.v7x

variable {F : FTy → Type} [FloatOps F]
-- ==== Proof.HostLits.lean ====
/- The two constant tables of the host program: the band pattern and the row order of the feature table. -/
module

public import proofs.«01_k».proof.KernelIdeal
public import Idealize.ShloMosaic.Lib.Pointwise

@[expose] public section

set_option maxRecDepth 16384

noncomputable section

namespace Cert.KernelIdeal.Net

open Cert.KernelIdeal Idealize.ShloMosaic

/-- The band pattern: pixel column `w` is tap `x` of window `j` exactly when `w + 1 = 10 * j + x`. -/
theorem lit0_flat : ∀ k : Fin 2880, lit0 k = if k.val / 30 + 1 = 10 * (k.val % 10) + k.val / 10 % 3 then 0x3F800000#32 else 0#32 := by
  decide +kernel

/-- The row order: row `80 * i + 10 * o + j` of the regrouped table is row `100 * o + 10 * i + j` of the given one. -/
theorem lit1_flat : ∀ f : Fin 800, lit1 f = BitVec.ofNat 32 (f.val / 10 % 8 * 100 + f.val / 80 * 10 + f.val % 10) := by
  decide +kernel

end Cert.KernelIdeal.Net

end
-- ==== Proof.Spec.lean ====
/- The network as plain sums over the extended reals: what both programs are shown to compute. -/
module

public import Idealize.ShloMosaic.Lib.Pointwise

@[expose] public section

noncomputable section

namespace Cert.Net

open Idealize.ShloMosaic

/-- The image with a border of zeros one pixel wide, read at row `y` and column `x` of the padded picture. -/
def padded (x0 : FVec Ideal ⟨4, ![1024, 3, 96, 96]⟩ .f32) (b : Fin 1024) (c : Fin 3) (y x : ℕ) : EReal :=
  if h : (1 ≤ y ∧ y < 97) ∧ (1 ≤ x ∧ x < 97) then
    x0 (ix4 b c (⟨y - 1, by omega⟩ : Fin 96) (⟨x - 1, by omega⟩ : Fin 96))
  else 0

/-- The convolution: output channel `o` at position `(i, j)` of image `b`. -/
def conv (x0 : FVec Ideal ⟨4, ![1024, 3, 96, 96]⟩ .f32) (x1 : FVec Ideal ⟨4, ![8, 3, 3, 3]⟩ .f32)
    (b : Fin 1024) (o : Fin 8) (i j : Fin 10) : EReal :=
  ∑ c : Fin 3, ∑ r : Fin 3, ∑ x : Fin 3,
    padded x0 b c (10 * i.val + r.val) (10 * j.val + x.val) * x1 (ix4 o c r x)

/-- The clip to [-1, 1]. -/
def clip (z : EReal) : EReal := min 1 (max (Ideal.ofBits .f32 0xBF800000#32) z)

/-- The steep sigmoid of the clipped value. -/
def steep (z : EReal) : EReal := Ideal.logistic (Ideal.ofBits .f32 0x41200000#32 * clip z)

/-- The steep sigmoid, kept where it is above one half and zero elsewhere. -/
def act (z : EReal) : EReal :=
  Scalar.select (FloatOps.cmpf (F := Ideal) (φ := .f32) .ogt (steep z) (Ideal.ofBits .f32 0x3F000000#32)) (steep z) 0

/-- The clip to [0, 1]. -/
def clamp (z : EReal) : EReal := min 1 (max 0 z)

/-- The first half of the clamped features times the second half, then the first half again, scaled by 127/128. -/
def halves (g : Fin 1024 → EReal) (n : Fin 1024) : EReal :=
  (if h : n.val < 512 then clamp (g ⟨n.val, by omega⟩) * clamp (g ⟨512 + n.val, by omega⟩)
    else clamp (g ⟨n.val - 512, by omega⟩)) * Ideal.ofBits .f32 0x3F7E0000#32

/-- The three dense layers on the features `g`; the last layer's row of weights is `w3` and its bias is `b3`. -/
def dense (g : Fin 1024 → EReal) (w1 : Fin 15 → Fin 1024 → EReal) (b1 : Fin 15 → EReal)
    (w2 : Fin 32 → Fin 15 → EReal) (b2 : Fin 32 → EReal) (w3 : Fin 32 → EReal) (b3 : EReal) : EReal :=
  ∑ k : Fin 32, max (∑ p : Fin 15, max (∑ n : Fin 1024, halves g n * w1 p n + b1 p) 0 * w2 k p + b2 k) 0 * w3 k + b3

/-- The features of image `b`: the feature table applied to the activations in channel-major order, plus the bias. -/
def feat (x0 : FVec Ideal ⟨4, ![1024, 3, 96, 96]⟩ .f32) (x1 : FVec Ideal ⟨4, ![8, 3, 3, 3]⟩ .f32)
    (x2 : FVec Ideal ⟨2, ![800, 1024]⟩ .f32) (x3 : FVec Ideal ⟨1, ![1024]⟩ .f32) (b n : Fin 1024) : EReal :=
  ∑ f : Fin 800, act (conv x0 x1 b ⟨f.val / 100, by omega⟩ ⟨f.val / 10 % 10, by omega⟩ ⟨f.val % 10, by omega⟩)
      * x2 (ix2 f n) + x3 (ix1 n)

/-- The network's output for image `b`. -/
def out (x0 : FVec Ideal ⟨4, ![1024, 3, 96, 96]⟩ .f32) (x1 : FVec Ideal ⟨4, ![8, 3, 3, 3]⟩ .f32)
    (x2 : FVec Ideal ⟨2, ![800, 1024]⟩ .f32) (x3 : FVec Ideal ⟨1, ![1024]⟩ .f32)
    (x4 : FVec Ideal ⟨2, ![15, 1024]⟩ .f32) (x5 : FVec Ideal ⟨1, ![15]⟩ .f32)
    (x6 : FVec Ideal ⟨2, ![32, 15]⟩ .f32) (x7 : FVec Ideal ⟨1, ![32]⟩ .f32)
    (x8 : FVec Ideal ⟨2, ![1, 32]⟩ .f32) (x9 : FVec Ideal ⟨1, ![1]⟩ .f32) (b : Fin 1024) : EReal :=
  dense (feat x0 x1 x2 x3 b) (fun p n => x4 (ix2 p n)) (fun p => x5 (ix1 p)) (fun k p => x6 (ix2 k p))
    (fun k => x7 (ix1 k)) (fun k => x8 (ix2 (0 : Fin 1) k)) (x9 (ix1 (0 : Fin 1)))

end Cert.Net

end
-- ==== Proof.Sums.lean ====
/- Sums over a padded window, regrouped, and the value of the word 0. Nothing here mentions a program. -/
module

public import proofs.«01_k».proof.Proof.Spec

@[expose] public section

noncomputable section

namespace Cert.Net

open Idealize.ShloMosaic

/-- The word 0 as a number. -/
theorem sitofp_zero : (FloatOps.sitofp (F := Ideal) .f32 0#32 : EReal) = 0 := by
  show (((0#32 : BitVec 32).toInt : ℝ) : EReal) = 0
  simp

/-- A product with a sum of three selected weights, of which at most one is selected, is the sum of the three
    selected products. -/
theorem mul_select3 (a : EReal) (w n : ℕ) (W : Fin 3 → EReal) :
    a * (∑ x : Fin 3, (if w + 1 = n + x.val then (1 : EReal) else 0) * W x)
      = ∑ x : Fin 3, if w + 1 = n + x.val then a * W x else 0 := by
  simp only [Fin.sum_univ_three, Fin.val_zero, Fin.val_one, Fin.val_two, Nat.add_zero]
  by_cases h0 : w + 1 = n
  · have h1 : ¬ w + 1 = n + 1 := by omega
    have h2 : ¬ w + 1 = n + 2 := by omega
    rw [if_pos h0, if_neg h1, if_neg h2, if_pos h0, if_neg h1, if_neg h2]
    simp only [zero_mul, one_mul, add_zero]
  · by_cases h1 : w + 1 = n + 1
    · have h2 : ¬ w + 1 = n + 2 := by omega
      rw [if_neg h0, if_pos h1, if_neg h2, if_neg h0, if_pos h1, if_neg h2]
      simp only [zero_mul, one_mul, zero_add, add_zero]
    · by_cases h2 : w + 1 = n + 2
      · rw [if_neg h0, if_neg h1, if_pos h2, if_neg h0, if_neg h1, if_pos h2]
        simp only [zero_mul, one_mul, zero_add]
      · rw [if_neg h0, if_neg h1, if_neg h2, if_neg h0, if_neg h1, if_neg h2]
        simp only [zero_mul, add_zero, mul_zero]

/-- One row of pixels against the three weights that the table puts at columns `n - 1`, `n`, `n + 1`: the
    three products, without the one that falls left of the row. -/
theorem row_sum (A : ℕ → EReal) (n : ℕ) (hn : n + 1 < 96) (W : Fin 3 → EReal) :
    ∑ w : Fin 96, A w.val * (∑ x : Fin 3, (if w.val + 1 = n + x.val then (1 : EReal) else 0) * W x)
      = ∑ x : Fin 3, if 1 ≤ n + x.val then A (n + x.val - 1) * W x else 0 := by
  simp only [mul_select3]
  rw [Finset.sum_comm]
  refine Finset.sum_congr rfl fun x _ => ?_
  by_cases h : 1 ≤ n + x.val
  · rw [if_pos h, Finset.sum_eq_single (⟨n + x.val - 1, by omega⟩ : Fin 96)]
    · rw [if_pos (by dsimp only; omega)]
    · intro w _ hw
      rw [if_neg]
      intro e
      exact hw (Fin.ext (by dsimp only; omega))
    · intro hh; exact absurd (Finset.mem_univ _) hh
  · rw [if_neg h]
    exact Finset.sum_eq_zero fun w _ => if_neg (by omega)

/-- A sum over 384 lanes of a function that vanishes outside the `R` rows of 96 lanes that begin at lane `p` is the
    sum over those rows. -/
theorem lanes_sum (f : ℕ → EReal) (p R : ℕ) (hR : p + 96 * R ≤ 384)
    (h0 : ∀ l, l < 384 → ¬ (p ≤ l ∧ l < p + 96 * R) → f l = 0) :
    ∑ l : Fin 384, f l.val = ∑ r : Fin R, ∑ w : Fin 96, f (p + 96 * r.val + w.val) := by
  rw [Fin.sum_univ_eq_sum_range (fun l => f l) 384]
  have hrows : ∑ r : Fin R, ∑ w : Fin 96, f (p + 96 * r.val + w.val) = ∑ l ∈ Finset.range (96 * R), f (p + l) := by
    clear h0 hR
    induction R with
    | zero => simp
    | succ R ih =>
      rw [Fin.sum_univ_castSucc, Nat.mul_succ, Finset.sum_range_add, ← ih]
      congr 1
  rw [hrows]
  obtain ⟨d, hd⟩ : ∃ d, 384 = p + 96 * R + d := ⟨384 - (p + 96 * R), by omega⟩
  rw [hd, Finset.sum_range_add, Finset.sum_range_add,
    Finset.sum_eq_zero (s := Finset.range p) fun l hl => h0 l (by have := Finset.mem_range.1 hl; omega) (by
      have := Finset.mem_range.1 hl; omega),
    Finset.sum_eq_zero (s := Finset.range d) fun l hl => h0 _ (by have := Finset.mem_range.1 hl; omega) (by omega),
    zero_add, add_zero]

/-- The window's lanes against a banded weight table: `R` rows of 96 lanes beginning at lane `p`, each row
    multiplied at columns `n - 1`, `n`, `n + 1`. -/
theorem band_sum (A : ℕ → EReal) (M : ℕ → EReal) (p R n : ℕ) (hR : p + 96 * R ≤ 384) (hn : n + 1 < 96)
    (W : Fin R → Fin 3 → EReal)
    (hin : ∀ (r : Fin R) (w : Fin 96), M (p + 96 * r.val + w.val)
      = ∑ x : Fin 3, (if w.val + 1 = n + x.val then (1 : EReal) else 0) * W r x)
    (hout : ∀ l, l < 384 → ¬ (p ≤ l ∧ l < p + 96 * R) → M l = 0) :
    ∑ l : Fin 384, A l.val * M l.val
      = ∑ r : Fin R, ∑ x : Fin 3, if 1 ≤ n + x.val then A (p + 96 * r.val + (n + x.val - 1)) * W r x else 0 := by
  rw [lanes_sum (fun l => A l * M l) p R hR fun l hl h => by rw [hout l hl h, mul_zero]]
  refine Finset.sum_congr rfl fun r _ => ?_
  rw [← row_sum (fun w => A (p + 96 * r.val + w)) n hn (W r)]
  exact Finset.sum_congr rfl fun w _ => by rw [hin]

/-- A sum over `m * n` indices taken block by block: `m` blocks of `n`. -/
theorem sum_blocks (m n : ℕ) {k : ℕ} (hk : k = m * n) (f : Fin k → EReal) :
    ∑ x : Fin k, f x = ∑ c : Fin m, ∑ l : Fin n, f ⟨n * c.val + l.val, by
      have h1 := c.isLt
      have h2 := l.isLt
      subst hk
      calc n * c.val + l.val < n * c.val + n := by omega
        _ = n * (c.val + 1) := by ring
        _ ≤ n * m := Nat.mul_le_mul_left n h1
        _ = m * n := Nat.mul_comm n m⟩ := by
  subst hk
  rw [← Fintype.sum_prod_type']
  refine ((Equiv.sum_comp (finProdFinEquiv (m := m) (n := n)) f).symm).trans (Finset.sum_congr rfl fun x _ => ?_)
  exact congrArg f (Fin.ext (Nat.add_comm _ _))

end Cert.Net

end
-- ==== Proof.Host.lean ====
/- The host arrays the kernel is launched on, read at an index. -/
module

public import proofs.«01_k».proof.Proof.Gen.KernelIdeal.Frame
public import proofs.«01_k».proof.Proof.HostLits
public import proofs.«01_k».proof.Proof.Sums
public import Idealize.ShloMosaic.Lib.StableHlo.ReadAt
public import Idealize.ShloMosaic.Lib.Routing.Ops
public import Idealize.ShloMosaic.Lib.Routing.OpsPair

@[expose] public section

set_option maxRecDepth 16384

noncomputable section

namespace Cert.KernelIdeal.Net

open Cert.KernelIdeal Cert.KernelIdeal.Gen Cert.Net Idealize.ShloMosaic Idealize.ShloMosaic.TcCoe

variable (m : (ℓ : Loc nD τ sig) → Buf (Elt Ideal) ℓ) (c : Dev nD)

/-- The image, flattened: position `n` of row `b`. -/
theorem v20_apply (b : Fin 1024) (n : Fin 27648) :
    (V m c main_v20 : FVec Ideal S1024x27648 .f32) (ix2 b n)
      = (m ((c : Thread nD τ).loc main_arg0) : FVec Ideal S1024x3x96x96 .f32)
        (ix4 b (⟨n.val / 9216, by omega⟩ : Fin 3) (⟨n.val / 96 % 96, by omega⟩ : Fin 96) (⟨n.val % 96, by omega⟩ : Fin 96)) := by
  unfold V
  after_reads_at

/-- The feature bias, as a row. -/
theorem v21_apply (n : Fin 1024) :
    (V m c main_v21 : FVec Ideal S1x1024 .f32) (ix2 (0 : Fin 1) n)
      = (m ((c : Thread nD τ).loc main_arg3) : FVec Ideal S1024 .f32) (ix1 n) := by
  unfold V
  after_reads_at

/-- The first dense bias, as a row. -/
theorem v22_apply (n : Fin 15) :
    (V m c main_v22 : FVec Ideal S1x15 .f32) (ix2 (0 : Fin 1) n)
      = (m ((c : Thread nD τ).loc main_arg5) : FVec Ideal S15 .f32) (ix1 n) := by
  unfold V
  after_reads_at

/-- The second dense bias, as a row. -/
theorem v23_apply (n : Fin 32) :
    (V m c main_v23 : FVec Ideal S1x32 .f32) (ix2 (0 : Fin 1) n)
      = (m ((c : Thread nD τ).loc main_arg7) : FVec Ideal S32 .f32) (ix1 n) := by
  unfold V
  after_reads_at

/-- Row 0 of the padded last weights is the given row. -/
theorem v24_apply (n : Fin 32) :
    (V m c main_v24 : FVec Ideal S128x32 .f32) (ix2 (0 : Fin 128) n)
      = (m ((c : Thread nD τ).loc main_arg8) : FVec Ideal S1x32 .f32) (ix2 (0 : Fin 1) n) := by
  unfold V
  after_reads_at

/-- The last bias, as a 1 by 1 array. -/
theorem v25_apply :
    (V m c main_v25 : FVec Ideal S1x1 .f32) (ix2 (0 : Fin 1) (0 : Fin 1))
      = (m ((c : Thread nD τ).loc main_arg9) : FVec Ideal S1 .f32) (ix1 (0 : Fin 1)) := by
  unfold V
  after_reads_at

/-- The row order at row `f`. -/
theorem lit1_apply (f : Fin 800) :
    lit1 (S800.rowMajor (ix1 f)) = BitVec.ofNat 32 (f.val / 10 % 8 * 100 + f.val / 80 * 10 + f.val % 10) := by
  have hv : (S800.rowMajor (ix1 f)).val = f.val := Shape.rowMajor_val_one (ix1 f)
  exact (lit1_flat (S800.rowMajor (ix1 f))).trans (by rw [hv])

/-- The regrouped feature table: row `f` is row `perm f` of the given one. -/
theorem v19_apply (f : Fin 800) (n : Fin 1024) :
    (V m c main_v19 : FVec Ideal S800x1024 .f32) (ix2 f n)
      = (m ((c : Thread nD τ).loc main_arg2) : FVec Ideal S800x1024 .f32)
        (ix2 (⟨f.val / 10 % 8 * 100 + f.val / 80 * 10 + f.val % 10, by omega⟩ : Fin 800) n) := by
  unfold V
  after_reads_at
  refine Routing.gather_row _ rfl rfl rfl rfl rfl _ _ f n _ ?_ (by norm_num)
  pointwise
  refine (congrArg (fun z => Scalar.select (IntOp.cmpi CmpIPredicate.slt z 0#32) (IntOp.addi z 800#32) z)
    (lit1_apply f)).trans ?_
  exact Routing.wrap_of_lt _ _ (by
    have hlt : f.val / 10 % 8 * 100 + f.val / 80 * 10 + f.val % 10 < 2000 := by omega
    rw [BitVec.toNat_ofNat, Nat.mod_eq_of_lt (by omega)]
    omega)

/-- The band pattern as a number. -/
theorem lit0_apply (w : Fin 96) (x : Fin 3) (j : Fin 10) :
    Ideal.ofBits .f32 (lit0 (S96x3x10.rowMajor (ix3 w x j))) = if w.val + 1 = 10 * j.val + x.val then 1 else 0 := by
  have hv : (S96x3x10.rowMajor (ix3 w x j)).val = w.val * 30 + x.val * 10 + j.val := by
    refine (Shape.rowMajor_val_three (ix3 w x j)).trans ?_
    show (w.val * 3 + x.val) * 10 + j.val = _
    omega
  refine (congrArg (Ideal.ofBits .f32) (lit0_flat (S96x3x10.rowMajor (ix3 w x j)))).trans ?_
  have h1 : (w.val * 30 + x.val * 10 + j.val) / 30 = w.val := by omega
  have h2 : (w.val * 30 + x.val * 10 + j.val) % 10 = j.val := by omega
  have h3 : (w.val * 30 + x.val * 10 + j.val) / 10 % 3 = x.val := by omega
  rw [hv, h1, h2, h3]
  by_cases h : w.val + 1 = 10 * j.val + x.val
  · rw [if_pos h, if_pos h, Ideal.ofBits_one_f32]
  · rw [if_neg h, if_neg h, Ideal.ofBits_zero_f32]

/-- What a band matrix holds: per channel 384 rows, of which rows `p … p + 96 R` carry the taps of the window rows
    `s … s + R`, and the others are zero. -/
structure IsBand (M : FVec Ideal S1152x80 .f32) (K : FVec Ideal S8x3x3x3 .f32) (p R s : ℕ) (hR : p + 96 * R ≤ 384)
    (hs : s + R ≤ 3) : Prop where
  inside : ∀ (ch : Fin 3) (r : Fin R) (w : Fin 96) (o : Fin 8) (j : Fin 10),
    M (ix2 (⟨384 * ch.val + (p + 96 * r.val + w.val), by omega⟩ : Fin 1152) (⟨10 * o.val + j.val, by omega⟩ : Fin 80))
      = ∑ x : Fin 3, (if w.val + 1 = 10 * j.val + x.val then (1 : EReal) else 0)
          * K (ix4 o ch (⟨s + r.val, by omega⟩ : Fin 3) x)
  outside : ∀ (ch : Fin 3) (l : Fin 384) (q : Fin 80), ¬ (p ≤ l.val ∧ l.val < p + 96 * R) →
    M (ix2 (⟨384 * ch.val + l.val, by omega⟩ : Fin 1152) q) = 0

/-- Two weights at equal indices are equal. -/
theorem K_congr (K : FVec Ideal S8x3x3x3 .f32) {o o' : Fin 8} {ch ch' r r' : Fin 3} (x : Fin 3) (ho : o.val = o'.val)
    (hc : ch.val = ch'.val) (hr : r.val = r'.val) : K (ix4 o ch r x) = K (ix4 o' ch' r' x) := by
  rw [Fin.ext ho, Fin.ext hc, Fin.ext hr]

/-- The band matrix of the odd output rows. -/
theorem v4_band : IsBand (V m c main_v4) (m ((c : Thread nD τ).loc main_arg1)) 96 3 0 (by norm_num) (by norm_num) := by
  constructor
  · intro ch r w o j
    unfold V
    after_reads_at
    refine (dif_pos (by omega)).trans ?_
    refine Finset.sum_congr rfl fun x _ => congrArg₂ (· * ·) ?_ ?_
    · rw [lit0_apply]
      congr 1
      apply propext
      dsimp only
      omega
    · exact K_congr (m ((c : Thread nD τ).loc main_arg1)) x (by first | rfl | (dsimp only; omega))
        (by first | rfl | (dsimp only; omega)) (by first | rfl | (dsimp only; omega))
  · intro ch l q h
    unfold V
    after_reads_at
    exact (dif_neg (by omega)).trans sitofp_zero

/-- The band matrix of the even output rows above zero. -/
theorem v6_band : IsBand (V m c main_v6) (m ((c : Thread nD τ).loc main_arg1)) 32 3 0 (by norm_num) (by norm_num) := by
  constructor
  · intro ch r w o j
    unfold V
    after_reads_at
    refine (dif_pos (by omega)).trans ?_
    refine Finset.sum_congr rfl fun x _ => congrArg₂ (· * ·) ?_ ?_
    · rw [lit0_apply]
      congr 1
      apply propext
      dsimp only
      omega
    · exact K_congr (m ((c : Thread nD τ).loc main_arg1)) x (by first | rfl | (dsimp only; omega))
        (by first | rfl | (dsimp only; omega)) (by first | rfl | (dsimp only; omega))
  · intro ch l q h
    unfold V
    after_reads_at
    exact (dif_neg (by omega)).trans sitofp_zero

/-- The band matrix of output row 0, whose first window row lies in the border. -/
theorem v12_band : IsBand (V m c main_v12) (m ((c : Thread nD τ).loc main_arg1)) 0 2 1 (by norm_num) (by norm_num) := by
  constructor
  · intro ch r w o j
    unfold V
    after_reads_at
    refine (dif_pos (by omega)).trans ?_
    refine Finset.sum_congr rfl fun x _ => congrArg₂ (· * ·) ?_ ?_
    · rw [lit0_apply]
      congr 1
      apply propext
      dsimp only
      omega
    · exact K_congr (m ((c : Thread nD τ).loc main_arg1)) x (by first | rfl | (dsimp only; omega))
        (by first | rfl | (dsimp only; omega)) (by first | rfl | (dsimp only; omega))
  · intro ch l q h
    unfold V
    after_reads_at
    exact (dif_neg (by omega)).trans sitofp_zero

end Cert.KernelIdeal.Net

end
-- ==== Proof.Pay.lean ====
/- The kernel body's payloads read at an index. -/
module

public import proofs.«01_k».proof.Proof.Gen.KernelIdeal.Skeleton
public import proofs.«01_k».proof.Proof.Sums

@[expose] public section

set_option maxRecDepth 16384

noncomputable section

namespace Cert.KernelIdeal.Net

open Cert.KernelIdeal Cert.KernelIdeal.Gen Cert.Net Idealize.ShloMosaic

/-- The dense layers of the kernel body at row `b`, column `q` of its block. -/
theorem pay12_apply (v : FVec Ideal S128x800 .f32) (T : FVec Ideal S800x1024 .f32) (c0 : FVec Ideal S1x1024 .f32)
    (w1 : FVec Ideal S15x1024 .f32) (b1 : FVec Ideal S1x15 .f32) (w2 : FVec Ideal S32x15 .f32)
    (b2 : FVec Ideal S1x32 .f32) (w3 : FVec Ideal S128x32 .f32) (b3 : EReal) (b : Fin 128) (q : Fin 128) :
    k0_pay1 (k0_pay12 v T c0 w1 b1 w2 b2 w3) b3 (ix2 b q)
      = dense (fun n => ∑ f : Fin 800, v (ix2 b f) * T (ix2 f n) + c0 (ix2 (0 : Fin 1) n))
          (fun p n => w1 (ix2 p n)) (fun p => b1 (ix2 (0 : Fin 1) p)) (fun k p => w2 (ix2 k p))
          (fun k => b2 (ix2 (0 : Fin 1) k)) (fun k => w3 (ix2 q k)) b3 := by
  pointwise [k0_pay1, k0_pay12, dense, halves, clamp]

/-- One band of rows times its band matrix: a sum over the three channels and the 384 lanes of each. -/
theorem pay4_apply (M : Vec Ideal S1152x80 .f32) (a : Fin 3 → Vec Ideal S128x384 .f32) (b : Fin 128) (q : Fin 80) :
    k0_pay4 M (a 0) (a 1) (a 2) (ix2 b q)
      = ∑ c : Fin 3, ∑ l : Fin 384, a c (ix2 b l) * M (ix2 ⟨384 * c.val + l.val, by omega⟩ q) := by
  pointwise [k0_pay4]
  rw [sum_blocks 3 384 rfl]
  refine Finset.sum_congr rfl fun c _ => Finset.sum_congr rfl fun l _ => congrArg₂ (· * ·) ?_ rfl
  have hl := l.isLt
  fin_cases c <;> dsimp only
  · refine (dif_pos (by omega)).trans ?_
    congr 2
    exact Fin.ext (by dsimp only; omega)
  · refine (dif_neg (by omega)).trans ((dif_pos (by omega)).trans ?_)
    congr 2
    exact Fin.ext (by dsimp only; omega)
  · refine (dif_neg (by omega)).trans ((dif_neg (by omega)).trans ?_)
    congr 2
    exact Fin.ext (by dsimp only; omega)

/-- Ten pieces of 80 columns joined: column `80 * i + q` is column `q` of piece `i`. -/
theorem cat10_apply (v : Fin 10 → FVec Ideal S128x80 .f32) (b : Fin 128) (i : Fin 10) (q : Fin 80) :
    concatenate S128x800 1 [⟨S128x80, v 0⟩, ⟨S128x80, v 1⟩, ⟨S128x80, v 2⟩, ⟨S128x80, v 3⟩, ⟨S128x80, v 4⟩,
        ⟨S128x80, v 5⟩, ⟨S128x80, v 6⟩, ⟨S128x80, v 7⟩, ⟨S128x80, v 8⟩, ⟨S128x80, v 9⟩]
        concatenates_S128x80_S128x80_S128x80_S128x80_S128x80_S128x80_S128x80_S128x80_S128x80_S128x80_S128x800_d1
        (ix2 b ⟨80 * i.val + q.val, by omega⟩) = v i (ix2 b q) := by
  fin_cases i <;> pointwise
  all_goals
    repeat refine (dif_neg (by omega)).trans ?_
    try refine (dif_pos (by omega)).trans ?_
    try (congr 2; exact Fin.ext (by dsimp only; omega))

/-- The activations of the kernel body. -/
theorem pay11_apply (M Me : Vec Ideal S1152x80 .f32) (v : Fin 10 → FVec Ideal S128x80 .f32)
    (a0 a1 a2 a3 a4 a5 a6 a7 a8 : Vec Ideal S128x384 .f32) (h7 : v 7 = k0_pay7 M a0 a1 a2)
    (h8 : v 8 = k0_pay8 Me a3 a4 a5) (h9 : v 9 = k0_pay9 M a6 a7 a8) (b : Fin 128) (i : Fin 10) (q : Fin 80) :
    k0_pay11 M Me (v 0) (v 1) (v 2) (v 3) (v 4) (v 5) (v 6) a0 a1 a2 a3 a4 a5 a6 a7 a8
      (ix2 b ⟨80 * i.val + q.val, by omega⟩) = act (v i (ix2 b q)) := by
  rw [← cat10_apply v b i q, h7, h8, h9]
  simp only [act, steep, clip, ← Ideal.ofBits_one_f32, ← Ideal.ofBits_zero_f32]
  rfl

end Cert.KernelIdeal.Net

end
-- ==== Proof.Parts.lean ====
/- A band of image rows times a band matrix is a row of the convolution. -/
module

public import proofs.«01_k».proof.Proof.Host
public import proofs.«01_k».proof.Proof.Pay

@[expose] public section

set_option maxRecDepth 16384

noncomputable section

namespace Cert.KernelIdeal.Net

open Cert.KernelIdeal Cert.KernelIdeal.Gen Cert.Net Idealize.ShloMosaic

/-- Entry `n` of the flattened image `b`, zero past its end. -/
def flat (x0 : FVec Ideal S1024x3x96x96 .f32) (b : Fin 1024) (n : ℕ) : EReal :=
  if h : n < 27648 then
    x0 (ix4 b (⟨n / 9216, by omega⟩ : Fin 3) (⟨n / 96 % 96, by omega⟩ : Fin 96) (⟨n % 96, by omega⟩ : Fin 96))
  else 0

/-- A pixel of the bordered image is an entry of the flattened one. -/
theorem padded_eq (x0 : FVec Ideal S1024x3x96x96 .f32) (b : Fin 1024) (ch : Fin 3) (y x n : ℕ) (hy : 1 ≤ y ∧ y < 97)
    (hx : x < 97) (hn : 1 ≤ x → n = 9216 * ch.val + 96 * (y - 1) + (x - 1)) :
    padded x0 b ch y x = if 1 ≤ x then flat x0 b n else 0 := by
  unfold padded
  by_cases h : 1 ≤ x
  · have hn := hn h
    rw [dif_pos ⟨hy, h, hx⟩, if_pos h]
    unfold flat
    rw [dif_pos (by omega)]
    congr 1
    refine congr (congr (congrArg (ix4 b) (Fin.ext ?_)) (Fin.ext ?_)) (Fin.ext ?_)
    · dsimp only; omega
    · dsimp only; omega
    · dsimp only; omega
  · rw [dif_neg (by omega), if_neg h]

/-- The convolution with its window rows below `s` left out, where those lie in the border. -/
theorem conv_eq (x0 : FVec Ideal S1024x3x96x96 .f32) (K : FVec Ideal S8x3x3x3 .f32) (b : Fin 1024) (o : Fin 8)
    (i j : Fin 10) (R s off p : ℕ) (hR : s + R = 3) (hi : 1 ≤ 10 * i.val + s)
    (hz : ∀ r, r < s → 10 * i.val + r < 1) (hp : off + p = 96 * (10 * i.val + s - 1)) :
    conv x0 K b o i j = ∑ ch : Fin 3, ∑ r : Fin R, ∑ x : Fin 3,
      if 1 ≤ 10 * j.val + x.val then
        flat x0 b (9216 * ch.val + off + (p + 96 * r.val + (10 * j.val + x.val - 1)))
          * K (ix4 o ch (⟨s + r.val, by omega⟩ : Fin 3) x)
      else 0 := by
  unfold conv
  refine Finset.sum_congr rfl fun ch _ => ?_
  have hterm : ∀ (r : Fin R), ∑ x : Fin 3, padded x0 b ch (10 * i.val + (s + r.val)) (10 * j.val + x.val)
        * K (ix4 o ch (⟨s + r.val, by omega⟩ : Fin 3) x)
      = ∑ x : Fin 3, if 1 ≤ 10 * j.val + x.val then
        flat x0 b (9216 * ch.val + off + (p + 96 * r.val + (10 * j.val + x.val - 1)))
          * K (ix4 o ch (⟨s + r.val, by omega⟩ : Fin 3) x)
      else 0 := by
    intro r
    refine Finset.sum_congr rfl fun x _ => ?_
    rw [padded_eq x0 b ch _ _ (9216 * ch.val + off + (p + 96 * r.val + (10 * j.val + x.val - 1))) (by omega) (by omega)
      (fun _ => by omega)]
    split_ifs
    · rfl
    · rw [zero_mul]
  rw [← Finset.sum_congr rfl fun r _ => hterm r]
  obtain rfl : R = 3 - s := by omega
  have hzero : ∀ (r : Fin 3), r.val < s → ∑ x : Fin 3, padded x0 b ch (10 * i.val + r.val) (10 * j.val + x.val)
      * K (ix4 o ch r x) = 0 := by
    intro r hr
    refine Finset.sum_eq_zero fun x _ => ?_
    unfold padded
    rw [dif_neg (by have := hz _ hr; omega), zero_mul]
  have hs : s = 0 ∨ s = 1 := by
    by_contra hs
    have := hz 1 (by omega)
    omega
  clear hterm hp hz
  rcases hs with rfl | rfl
  · refine Finset.sum_congr rfl fun r _ => ?_
    simp only [Nat.zero_add]
  · rw [Fin.sum_univ_succ, hzero 0 (by decide), zero_add]
    refine Finset.sum_congr rfl fun r _ => Finset.sum_congr rfl fun x _ => ?_
    have hr : r.succ = (⟨1 + r.val, by omega⟩ : Fin 3) := Fin.ext (by rw [Fin.val_succ, Nat.add_comm])
    rw [hr]

/-- One band product of the kernel body is a row of the convolution. -/
theorem part_apply (x0 : FVec Ideal S1024x3x96x96 .f32) (K : FVec Ideal S8x3x3x3 .f32) (M : FVec Ideal S1152x80 .f32)
    (a : Fin 3 → Vec Ideal S128x384 .f32) (b : Fin 128) (b' : Fin 1024) (o : Fin 8) (i j : Fin 10) (R s off p : ℕ)
    (hR : s + R = 3) (hi : 1 ≤ 10 * i.val + s) (hz : ∀ r, r < s → 10 * i.val + r < 1)
    (hp : off + p = 96 * (10 * i.val + s - 1)) (hpR : p + 96 * R ≤ 384) (hM : IsBand M K p R s hpR hR.le)
    (ha : ∀ ch l, a ch (ix2 b l) = flat x0 b' (9216 * ch.val + off + l.val)) :
    k0_pay4 M (a 0) (a 1) (a 2) (ix2 b (⟨10 * o.val + j.val, by omega⟩ : Fin 80)) = conv x0 K b' o i j := by
  rw [pay4_apply, conv_eq x0 K b' o i j R s off p hR hi hz hp]
  refine Finset.sum_congr rfl fun ch _ => ?_
  refine Eq.trans ?_ (band_sum (fun n => flat x0 b' (9216 * ch.val + off + n))
    (fun l => if h : l < 384 then M (ix2 (⟨384 * ch.val + l, by omega⟩ : Fin 1152) (⟨10 * o.val + j.val, by omega⟩ : Fin 80)) else 0)
    p R (10 * j.val) hpR (by omega) (fun r x => K (ix4 o ch (⟨s + r.val, by omega⟩ : Fin 3) x)) ?_ ?_)
  · refine Finset.sum_congr rfl fun l _ => ?_
    rw [ha, dif_pos l.isLt]
  · intro r w
    rw [dif_pos (by omega)]
    exact hM.inside ch r w o j
  · intro l hl h
    rw [dif_pos hl]
    exact hM.outside ch ⟨l, hl⟩ _ h

end Cert.KernelIdeal.Net

end
-- ==== Proof.Acts.lean ====
/- The activations of one block of 128 images. -/
module

public import proofs.«01_k».proof.Proof.Parts

@[expose] public section

set_option maxRecDepth 16384

noncomputable section

namespace Cert.KernelIdeal.Net

open Cert.KernelIdeal Cert.KernelIdeal.Gen Cert.Net Idealize.ShloMosaic

/-- 384 columns of a block of images, from column `n`. -/
def slab (x : Vec Ideal S128x27648 .f32) (n : ℕ)
    (h : ∀ a, (![0, n] : Fin 2 → Nat) a + S128x384.size a ≤ S128x27648.size a) : Vec Ideal S128x384 .f32 :=
  View.ld x (Rect.unit ![0, n] S128x384.size h)

/-- Column `l` of the 384 columns from `n` is column `n + l` of the block. -/
theorem slab_apply (x : Vec Ideal S128x27648 .f32) (n : ℕ)
    (h : ∀ a, (![0, n] : Fin 2 → Nat) a + S128x384.size a ≤ S128x27648.size a) (b : Fin 128) (l : Fin 384)
    (hl : n + l.val < 27648) : slab x n h (ix2 b l) = x (ix2 b (⟨n + l.val, hl⟩ : Fin 27648)) := by
  unfold slab
  pointwise

/-- One output row of the convolution from the three channels' slabs. -/
theorem slabs_part (X0 : FVec Ideal S1024x3x96x96 .f32) (K : FVec Ideal S8x3x3x3 .f32) (M : FVec Ideal S1152x80 .f32)
    (x0 : Vec Ideal S128x27648 .f32) (b : Fin 128) (b' : Fin 1024)
    (hx : ∀ n : Fin 27648, x0 (ix2 b n) = flat X0 b' n.val) (o : Fin 8) (i j : Fin 10) (R s off p n0 n1 n2 : ℕ)
    (h0 : ∀ a, (![0, n0] : Fin 2 → Nat) a + S128x384.size a ≤ S128x27648.size a)
    (h1 : ∀ a, (![0, n1] : Fin 2 → Nat) a + S128x384.size a ≤ S128x27648.size a)
    (h2 : ∀ a, (![0, n2] : Fin 2 → Nat) a + S128x384.size a ≤ S128x27648.size a)
    (e0 : n0 = off) (e1 : n1 = 9216 + off) (e2 : n2 = 18432 + off)
    (hR : s + R = 3) (hi : 1 ≤ 10 * i.val + s) (hz : ∀ r, r < s → 10 * i.val + r < 1)
    (hp : off + p = 96 * (10 * i.val + s - 1)) (hpR : p + 96 * R ≤ 384) (hM : IsBand M K p R s hpR hR.le) :
    k0_pay4 M (slab x0 n0 h0) (slab x0 n1 h1) (slab x0 n2 h2) (ix2 b (⟨10 * o.val + j.val, by omega⟩ : Fin 80))
      = conv X0 K b' o i j := by
  have hb0 : n0 + 384 ≤ 27648 := h0 1
  have hb1 : n1 + 384 ≤ 27648 := h1 1
  have hb2 : n2 + 384 ≤ 27648 := h2 1
  refine part_apply X0 K M ![slab x0 n0 h0, slab x0 n1 h1, slab x0 n2 h2] b b' o i j R s off p hR hi hz hp hpR hM ?_
  intro ch l
  match ch with
  | 0 =>
    refine (slab_apply x0 n0 h0 b l (by omega)).trans ((hx _).trans (congrArg (flat X0 b') ?_))
    show n0 + l.val = 9216 * 0 + off + l.val
    omega
  | 1 =>
    refine (slab_apply x0 n1 h1 b l (by omega)).trans ((hx _).trans (congrArg (flat X0 b') ?_))
    show n1 + l.val = 9216 * 1 + off + l.val
    omega
  | 2 =>
    refine (slab_apply x0 n2 h2 b l (by omega)).trans ((hx _).trans (congrArg (flat X0 b') ?_))
    show n2 + l.val = 9216 * 2 + off + l.val
    omega

/-- The activations the kernel body computes from its block of images and the three band matrices. -/
def acts (x0 : Vec Ideal S128x27648 .f32) (x1 x2 x3 : Vec Ideal S1152x80 .f32) : FVec Ideal S128x800 .f32 :=
  k0_pay11 (k0_pay2 x1) (k0_pay3 x2)
    (k0_pay4 x3 (slab x0 0 inb_S128x27648_S128x384_0_0)
      (slab x0 9216 inb_S128x27648_S128x384_0_9216)
      (slab x0 18432 inb_S128x27648_S128x384_0_18432))
    (k0_pay5 x1 (slab x0 768 inb_S128x27648_S128x384_0_768)
      (slab x0 9984 inb_S128x27648_S128x384_0_9984)
      (slab x0 19200 inb_S128x27648_S128x384_0_19200))
    (k0_pay6 x2 (slab x0 1792 inb_S128x27648_S128x384_0_1792)
      (slab x0 11008 inb_S128x27648_S128x384_0_11008)
      (slab x0 20224 inb_S128x27648_S128x384_0_20224))
    (k0_pay7 (k0_pay2 x1) (slab x0 2688 inb_S128x27648_S128x384_0_2688)
      (slab x0 11904 inb_S128x27648_S128x384_0_11904)
      (slab x0 21120 inb_S128x27648_S128x384_0_21120))
    (k0_pay8 (k0_pay3 x2) (slab x0 3712 inb_S128x27648_S128x384_0_3712)
      (slab x0 12928 inb_S128x27648_S128x384_0_12928)
      (slab x0 22144 inb_S128x27648_S128x384_0_22144))
    (k0_pay9 (k0_pay2 x1) (slab x0 4608 inb_S128x27648_S128x384_0_4608)
      (slab x0 13824 inb_S128x27648_S128x384_0_13824)
      (slab x0 23040 inb_S128x27648_S128x384_0_23040))
    (k0_pay10 (k0_pay3 x2) (slab x0 5632 inb_S128x27648_S128x384_0_5632)
      (slab x0 14848 inb_S128x27648_S128x384_0_14848)
      (slab x0 24064 inb_S128x27648_S128x384_0_24064))
    (slab x0 6528 inb_S128x27648_S128x384_0_6528)
    (slab x0 15744 inb_S128x27648_S128x384_0_15744)
    (slab x0 24960 inb_S128x27648_S128x384_0_24960)
    (slab x0 7552 inb_S128x27648_S128x384_0_7552)
    (slab x0 16768 inb_S128x27648_S128x384_0_16768)
    (slab x0 25984 inb_S128x27648_S128x384_0_25984)
    (slab x0 8448 inb_S128x27648_S128x384_0_8448)
    (slab x0 17664 inb_S128x27648_S128x384_0_17664)
    (slab x0 26880 inb_S128x27648_S128x384_0_26880)

/-- The ten output rows of the convolution, 80 columns each. -/
def rows (x0 : Vec Ideal S128x27648 .f32) (x1 x2 x3 : Vec Ideal S1152x80 .f32) : Fin 10 → FVec Ideal S128x80 .f32 :=
  ![k0_pay4 x3 (slab x0 0 inb_S128x27648_S128x384_0_0) (slab x0 9216 inb_S128x27648_S128x384_0_9216) (slab x0 18432 inb_S128x27648_S128x384_0_18432),
    k0_pay4 x1 (slab x0 768 inb_S128x27648_S128x384_0_768) (slab x0 9984 inb_S128x27648_S128x384_0_9984) (slab x0 19200 inb_S128x27648_S128x384_0_19200),
    k0_pay4 x2 (slab x0 1792 inb_S128x27648_S128x384_0_1792) (slab x0 11008 inb_S128x27648_S128x384_0_11008) (slab x0 20224 inb_S128x27648_S128x384_0_20224),
    k0_pay4 x1 (slab x0 2688 inb_S128x27648_S128x384_0_2688) (slab x0 11904 inb_S128x27648_S128x384_0_11904) (slab x0 21120 inb_S128x27648_S128x384_0_21120),
    k0_pay4 x2 (slab x0 3712 inb_S128x27648_S128x384_0_3712) (slab x0 12928 inb_S128x27648_S128x384_0_12928) (slab x0 22144 inb_S128x27648_S128x384_0_22144),
    k0_pay4 x1 (slab x0 4608 inb_S128x27648_S128x384_0_4608) (slab x0 13824 inb_S128x27648_S128x384_0_13824) (slab x0 23040 inb_S128x27648_S128x384_0_23040),
    k0_pay4 x2 (slab x0 5632 inb_S128x27648_S128x384_0_5632) (slab x0 14848 inb_S128x27648_S128x384_0_14848) (slab x0 24064 inb_S128x27648_S128x384_0_24064),
    k0_pay4 x1 (slab x0 6528 inb_S128x27648_S128x384_0_6528) (slab x0 15744 inb_S128x27648_S128x384_0_15744) (slab x0 24960 inb_S128x27648_S128x384_0_24960),
    k0_pay4 x2 (slab x0 7552 inb_S128x27648_S128x384_0_7552) (slab x0 16768 inb_S128x27648_S128x384_0_16768) (slab x0 25984 inb_S128x27648_S128x384_0_25984),
    k0_pay4 x1 (slab x0 8448 inb_S128x27648_S128x384_0_8448) (slab x0 17664 inb_S128x27648_S128x384_0_17664) (slab x0 26880 inb_S128x27648_S128x384_0_26880)]

/-- Column `80 * i + 10 * o + j` of the activations is the gated sigmoid of the convolution's channel `o` at `(i, j)`. -/
theorem acts_apply (X0 : FVec Ideal S1024x3x96x96 .f32) (K : FVec Ideal S8x3x3x3 .f32)
    (x0 : Vec Ideal S128x27648 .f32) (x1 x2 x3 : Vec Ideal S1152x80 .f32)
    (h1 : IsBand x1 K 96 3 0 (by norm_num) (by norm_num)) (h2 : IsBand x2 K 32 3 0 (by norm_num) (by norm_num))
    (h3 : IsBand x3 K 0 2 1 (by norm_num) (by norm_num)) (b : Fin 128) (b' : Fin 1024)
    (hx : ∀ n : Fin 27648, x0 (ix2 b n) = flat X0 b' n.val) (o : Fin 8) (i j : Fin 10) :
    acts x0 x1 x2 x3 (ix2 b (⟨80 * i.val + (10 * o.val + j.val), by omega⟩ : Fin 800)) = act (conv X0 K b' o i j) := by
  refine (pay11_apply (k0_pay2 x1) (k0_pay3 x2) (rows x0 x1 x2 x3) _ _ _ _ _ _ _ _ _ rfl rfl rfl b i
    (⟨10 * o.val + j.val, by omega⟩ : Fin 80)).trans (congrArg act ?_)
  fin_cases i
  · exact slabs_part X0 K x3 x0 b b' hx o (0 : Fin 10) j 2 1 0 0 0 9216 18432 _ _ _ rfl rfl rfl rfl
      (by decide) (by decide) (by decide) (by decide) h3
  · exact slabs_part X0 K x1 x0 b b' hx o (1 : Fin 10) j 3 0 768 96 768 9984 19200 _ _ _ rfl rfl rfl rfl
      (by decide) (by decide) (by decide) (by decide) h1
  · exact slabs_part X0 K x2 x0 b b' hx o (2 : Fin 10) j 3 0 1792 32 1792 11008 20224 _ _ _ rfl rfl rfl rfl
      (by decide) (by decide) (by decide) (by decide) h2
  · exact slabs_part X0 K x1 x0 b b' hx o (3 : Fin 10) j 3 0 2688 96 2688 11904 21120 _ _ _ rfl rfl rfl rfl
      (by decide) (by decide) (by decide) (by decide) h1
  · exact slabs_part X0 K x2 x0 b b' hx o (4 : Fin 10) j 3 0 3712 32 3712 12928 22144 _ _ _ rfl rfl rfl rfl
      (by decide) (by decide) (by decide) (by decide) h2
  · exact slabs_part X0 K x1 x0 b b' hx o (5 : Fin 10) j 3 0 4608 96 4608 13824 23040 _ _ _ rfl rfl rfl rfl
      (by decide) (by decide) (by decide) (by decide) h1
  · exact slabs_part X0 K x2 x0 b b' hx o (6 : Fin 10) j 3 0 5632 32 5632 14848 24064 _ _ _ rfl rfl rfl rfl
      (by decide) (by decide) (by decide) (by decide) h2
  · exact slabs_part X0 K x1 x0 b b' hx o (7 : Fin 10) j 3 0 6528 96 6528 15744 24960 _ _ _ rfl rfl rfl rfl
      (by decide) (by decide) (by decide) (by decide) h1
  · exact slabs_part X0 K x2 x0 b b' hx o (8 : Fin 10) j 3 0 7552 32 7552 16768 25984 _ _ _ rfl rfl rfl rfl
      (by decide) (by decide) (by decide) (by decide) h2
  · exact slabs_part X0 K x1 x0 b b' hx o (9 : Fin 10) j 3 0 8448 96 8448 17664 26880 _ _ _ rfl rfl rfl rfl
      (by decide) (by decide) (by decide) (by decide) h1

end Cert.KernelIdeal.Net

end
-- ==== Proof.Feat.lean ====
/- The feature sum in the kernel's order of rows is the sum in the given order. -/
module

public import proofs.«01_k».proof.Proof.Acts

@[expose] public section

set_option maxRecDepth 16384

noncomputable section

namespace Cert.KernelIdeal.Net

open Cert.KernelIdeal Cert.KernelIdeal.Gen Cert.Net Idealize.ShloMosaic

/-- A sum over 800 rows grouped as position row, channel, position column is the sum grouped as channel, position row,
    position column. -/
theorem regroup (f g : Fin 800 → EReal)
    (h : ∀ (o : Fin 8) (i j : Fin 10), f ⟨80 * i.val + (10 * o.val + j.val), by omega⟩
      = g ⟨100 * o.val + (10 * i.val + j.val), by omega⟩) : ∑ n, f n = ∑ n, g n := by
  rw [sum_blocks 10 80 rfl f, sum_blocks 8 100 rfl g]
  simp only [sum_blocks 8 10 (rfl : 80 = 8 * 10), sum_blocks 10 10 (rfl : 100 = 10 * 10)]
  rw [Finset.sum_comm]
  exact Finset.sum_congr rfl fun o _ => Finset.sum_congr rfl fun i _ => Finset.sum_congr rfl fun j _ => h o i j

/-- The features of the kernel body are the features of the network. -/
theorem feat_eq (X0 : FVec Ideal S1024x3x96x96 .f32) (K : FVec Ideal S8x3x3x3 .f32) (X2 : FVec Ideal S800x1024 .f32)
    (X3 : FVec Ideal S1024 .f32)
    (x0 : Vec Ideal S128x27648 .f32) (x1 x2 x3 : Vec Ideal S1152x80 .f32) (T : FVec Ideal S800x1024 .f32)
    (c0 : FVec Ideal S1x1024 .f32)
    (h1 : IsBand x1 K 96 3 0 (by norm_num) (by norm_num)) (h2 : IsBand x2 K 32 3 0 (by norm_num) (by norm_num))
    (h3 : IsBand x3 K 0 2 1 (by norm_num) (by norm_num)) (b : Fin 128) (b' : Fin 1024)
    (hx : ∀ n : Fin 27648, x0 (ix2 b n) = flat X0 b' n.val)
    (hT : ∀ (f : Fin 800) (n : Fin 1024),
      T (ix2 f n) = X2 (ix2 (⟨f.val / 10 % 8 * 100 + f.val / 80 * 10 + f.val % 10, by omega⟩ : Fin 800) n))
    (hc : ∀ n : Fin 1024, c0 (ix2 (0 : Fin 1) n) = X3 (ix1 n)) (n : Fin 1024) :
    ∑ f : Fin 800, acts x0 x1 x2 x3 (ix2 b f) * T (ix2 f n) + c0 (ix2 (0 : Fin 1) n) = feat X0 K X2 X3 b' n := by
  unfold feat
  rw [hc]
  refine congrArg₂ (· + ·) (regroup _ _ fun o i j => ?_) rfl
  refine congrArg₂ (· * ·) ?_ ?_
  · rw [acts_apply X0 K x0 x1 x2 x3 h1 h2 h3 b b' hx o i j]
    have e1 : (⟨(100 * o.val + (10 * i.val + j.val)) / 100, by omega⟩ : Fin 8) = o := Fin.ext (by dsimp only; omega)
    have e2 : (⟨(100 * o.val + (10 * i.val + j.val)) / 10 % 10, by omega⟩ : Fin 10) = i := Fin.ext (by dsimp only; omega)
    have e3 : (⟨(100 * o.val + (10 * i.val + j.val)) % 10, by omega⟩ : Fin 10) = j := Fin.ext (by dsimp only; omega)
    dsimp only
    rw [e1, e2, e3]
  · rw [hT]
    refine congrArg (fun z => X2 (ix2 z n)) (Fin.ext ?_)
    dsimp only
    omega

end Cert.KernelIdeal.Net

end
-- ==== Proof.Block.lean ====
/- What one grid point leaves in its output block. -/
module

public import proofs.«01_k».proof.Proof.Feat
public import Idealize.ShloMosaic.Lib.Pipeline.ValueKit.Geometry

@[expose] public section

set_option maxRecDepth 16384

noncomputable section

namespace Cert.KernelIdeal.Net

open Cert.KernelIdeal Cert.KernelIdeal.Gen Cert.Net Idealize.ShloMosaic Idealize.ShloMosaic.TcCoe Idealize.ShloMosaic.Tactic

variable (m : (ℓ : Loc nD τ sig) → Buf (Elt Ideal) ℓ) (c : Dev nD)

/-- The zero offset of a whole-block access. -/
theorem hz : (![0, 0] : Fin 2 → Nat) = fun _ => 0 := funext fun a => by fin_cases a <;> rfl

/-- What grid point `t` leaves in its output block, as the kernel body's payloads of its input blocks. -/
theorem outs_eq (t : Fin cfg0.N) : outsAt0 m c t =
    k0_pay1 (k0_pay12 (acts (iblk m c 0 t) (iblk m c 1 t) (iblk m c 2 t) (iblk m c 3 t)) (iblk m c 4 t) (iblk m c 5 t)
      (iblk m c 6 t) (iblk m c 7 t) (iblk m c 8 t) (iblk m c 9 t) (iblk m c 10 t))
      ((iblk m c 11 t : FVec Ideal S1x1 .f32) (ix2 (0 : Fin 1) (0 : Fin 1))) := by
  unfold outsAt0 out0_A_12
  rw [View.read_writes_eq_canon _ _ _ (cover0_A_12 c (grid0.coords t) (ms0_0 t) (hs0_0 t) (ms0_1 t) (hs0_1 t)
    (ms0_2 t) (hs0_2 t) (ms0_3 t) (hs0_3 t) (ms0_4 t) (hs0_4 t) (ms0_5 t) (hs0_5 t) (ms0_6 t) (hs0_6 t) (ms0_7 t)
    (hs0_7 t) (ms0_8 t) (hs0_8 t) (ms0_9 t) (hs0_9 t) (ms0_10 t) (hs0_10 t) (ms0_11 t) (hs0_11 t) (ms0_12 t)
    (hs0_12 t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t))]
  unfold kernelRun0_A
  dsimp only
  sl_unfold_words
  rw [View.canon_unit_zero hz]
  simp only [View.readAt_eq_ld, (hs0_0 t).read_unread, (hs0_1 t).read_unread, (hs0_2 t).read_unread,
    (hs0_3 t).read_unread, (hs0_4 t).read_unread, (hs0_5 t).read_unread, (hs0_6 t).read_unread,
    (hs0_7 t).read_unread, (hs0_8 t).read_unread, (hs0_9 t).read_unread, (hs0_10 t).read_unread,
    (hs0_11 t).read_unread]
  rw [View.ld_unit_zero (S := S1152x80) hz _ (iblk m c 1 t), View.ld_unit_zero (S := S1152x80) hz _ (iblk m c 2 t),
    View.ld_unit_zero (S := S1152x80) hz _ (iblk m c 3 t), View.ld_unit_zero (S := S800x1024) hz _ (iblk m c 4 t),
    View.ld_unit_zero (S := S1x1024) hz _ (iblk m c 5 t), View.ld_unit_zero (S := S15x1024) hz _ (iblk m c 6 t),
    View.ld_unit_zero (S := S1x15) hz _ (iblk m c 7 t), View.ld_unit_zero (S := S32x15) hz _ (iblk m c 8 t),
    View.ld_unit_zero (S := S1x32) hz _ (iblk m c 9 t), View.ld_unit_zero (S := S128x32) hz _ (iblk m c 10 t),
    View.ld_unit_zero (S := S1x1) hz _ (iblk m c 11 t)]
  have hf : ∀ i : S1x1.Idx, i = ix2 (0 : Fin 1) (0 : Fin 1) := fun i => by
    funext a
    match a with
    | ⟨0, _⟩ => exact Fin.ext (by have := (i 0).isLt; have e : S1x1.size 0 = 1 := rfl; show (i 0).val = 0; omega)
    | ⟨1, _⟩ => exact Fin.ext (by have := (i 1).isLt; have e : S1x1.size 1 = 1 := rfl; show (i 1).val = 0; omega)
  rw [hf (Shape.Idx.first _)]
  rfl

end Cert.KernelIdeal.Net

end
-- ==== Proof.Run.lean ====
/- The kernel program's result array as one function of its arguments. -/
module

public import proofs.«01_k».proof.Proof.Block

@[expose] public section

set_option maxRecDepth 16384

noncomputable section

namespace Cert.KernelIdeal.Net

open Cert.KernelIdeal Cert.KernelIdeal.Gen Cert.Net Idealize.ShloMosaic Idealize.ShloMosaic.TcCoe Idealize.SL.Sem

variable (m : (ℓ : Loc nD τ sig) → Buf (Elt Ideal) ℓ) (ρ : Dev nD → PrngReg) (c : Dev nD)

/-- At grid point `t` the image window is at block `t` of the rows. -/
theorem index0 : ∀ t : Fin cfg0.N, win0_0.index t (0 : Fin 2) = t.val ∧ win0_0.index t (1 : Fin 2) = 0 :=
  (by decide +kernel : ∀ t : Fin grid0.N, _)
/-- At grid point `t` the output window is at block `t` of the rows. -/
theorem index12 : ∀ t : Fin cfg0.N, win0_12.index t (0 : Fin 2) = t.val ∧ win0_12.index t (1 : Fin 2) = 0 :=
  (by decide +kernel : ∀ t : Fin grid0.N, _)
/-- The eleven windows between them stay at the one block of their array. -/
theorem stays : ∀ w : Fin 13, w ≠ 0 → w ≠ 12 → ∀ (t : Fin cfg0.N) (a : Fin (cfg0.win w).shape.rank),
    (cfg0.win w).index t a = 0 := by
  decide +kernel

/-- So a place in the block of such a window is the same place in its array. -/
theorem place_stays (w : Fin 13) (h0 : w ≠ 0) (h12 : w ≠ 12) (t : Fin cfg0.N)
    (y : ((cfg0.win w).xblock (cfg0.grid.coords t)).Idx) (a : Fin (cfg0.win w).shape.rank) :
    (((cfg0.win w).rect t).emb y a : Nat) = y a :=
  (cfg0.win w).rect_emb_val_of_index_zero t a (stays w h0 h12 t a) y

/-- Row `b` of the image block at grid point `t` is row `128 t + b` of the image array. -/
theorem iblk0_apply (t : Fin cfg0.N) (b : Fin 128) (b' : Fin 1024) (hb : b'.val = 128 * t.val + b.val) (n : Fin 27648) :
    (iblk m c 0 t : FVec Ideal S128x27648 .f32) (ix2 b n) = (V m c main_v20 : FVec Ideal S1024x27648 .f32) (ix2 b' n) := by
  obtain ⟨e0, e1⟩ := index0 t
  show V m c main_v20 (((cfg0.win 0).blk t).view.emb (ix2 b n)) = _
  refine congrArg (V m c main_v20) ?_
  funext a; apply Fin.ext
  match a with
  | ⟨0, _⟩ => show win0_0.index t (0 : Fin 2) * 128 + 1 * b.val = b'.val; omega
  | ⟨1, _⟩ => show win0_0.index t (1 : Fin 2) * 27648 + 1 * n.val = n.val; omega

/-- Window 1's block is the whole band matrix of the odd output rows. -/
theorem iblk1_eq (t : Fin cfg0.N) : iblk m c 1 t = V m c main_v4 :=
  funext fun y => congrArg (V m c main_v4) (funext fun a => Fin.ext (place_stays 1 (by decide) (by decide) t y a))

/-- Window 2's block is the whole band matrix of the even output rows. -/
theorem iblk2_eq (t : Fin cfg0.N) : iblk m c 2 t = V m c main_v6 :=
  funext fun y => congrArg (V m c main_v6) (funext fun a => Fin.ext (place_stays 2 (by decide) (by decide) t y a))

/-- Window 3's block is the whole band matrix of the first output row. -/
theorem iblk3_eq (t : Fin cfg0.N) : iblk m c 3 t = V m c main_v12 :=
  funext fun y => congrArg (V m c main_v12) (funext fun a => Fin.ext (place_stays 3 (by decide) (by decide) t y a))

/-- Window 4's block is the whole feature table. -/
theorem iblk4_eq (t : Fin cfg0.N) : iblk m c 4 t = V m c main_v19 :=
  funext fun y => congrArg (V m c main_v19) (funext fun a => Fin.ext (place_stays 4 (by decide) (by decide) t y a))

/-- Window 5's block is the whole feature bias. -/
theorem iblk5_eq (t : Fin cfg0.N) : iblk m c 5 t = V m c main_v21 :=
  funext fun y => congrArg (V m c main_v21) (funext fun a => Fin.ext (place_stays 5 (by decide) (by decide) t y a))

/-- Window 6's block is the whole first weights. -/
theorem iblk6_eq (t : Fin cfg0.N) : iblk m c 6 t = V m c main_arg4 :=
  funext fun y => congrArg (V m c main_arg4) (funext fun a => Fin.ext (place_stays 6 (by decide) (by decide) t y a))

/-- Window 7's block is the whole first bias. -/
theorem iblk7_eq (t : Fin cfg0.N) : iblk m c 7 t = V m c main_v22 :=
  funext fun y => congrArg (V m c main_v22) (funext fun a => Fin.ext (place_stays 7 (by decide) (by decide) t y a))

/-- Window 8's block is the whole second weights. -/
theorem iblk8_eq (t : Fin cfg0.N) : iblk m c 8 t = V m c main_arg6 :=
  funext fun y => congrArg (V m c main_arg6) (funext fun a => Fin.ext (place_stays 8 (by decide) (by decide) t y a))

/-- Window 9's block is the whole second bias. -/
theorem iblk9_eq (t : Fin cfg0.N) : iblk m c 9 t = V m c main_v23 :=
  funext fun y => congrArg (V m c main_v23) (funext fun a => Fin.ext (place_stays 9 (by decide) (by decide) t y a))

/-- Window 10's block is the whole last weights. -/
theorem iblk10_eq (t : Fin cfg0.N) : iblk m c 10 t = V m c main_v24 :=
  funext fun y => congrArg (V m c main_v24) (funext fun a => Fin.ext (place_stays 10 (by decide) (by decide) t y a))

/-- Window 11's block is the whole last bias. -/
theorem iblk11_eq (t : Fin cfg0.N) : iblk m c 11 t = V m c main_v25 :=
  funext fun y => congrArg (V m c main_v25) (funext fun a => Fin.ext (place_stays 11 (by decide) (by decide) t y a))

/-- What the region leaves at row `r`, column `q` of its output array: the network on image `r` with the last weights
    taken from row `q` of the padded ones. -/
def cell (r : Fin 1024) (q : Fin 128) : EReal :=
  dense (feat (m ((c : Thread nD τ).loc main_arg0)) (m ((c : Thread nD τ).loc main_arg1))
      (m ((c : Thread nD τ).loc main_arg2)) (m ((c : Thread nD τ).loc main_arg3)) r)
    (fun p n => (m ((c : Thread nD τ).loc main_arg4) : FVec Ideal S15x1024 .f32) (ix2 p n))
    (fun p => (m ((c : Thread nD τ).loc main_arg5) : FVec Ideal S15 .f32) (ix1 p))
    (fun k p => (m ((c : Thread nD τ).loc main_arg6) : FVec Ideal S32x15 .f32) (ix2 k p))
    (fun k => (m ((c : Thread nD τ).loc main_arg7) : FVec Ideal S32 .f32) (ix1 k))
    (fun k => (V m c main_v24 : FVec Ideal S128x32 .f32) (ix2 q k))
    ((m ((c : Thread nD τ).loc main_arg9) : FVec Ideal S1 .f32) (ix1 (0 : Fin 1)))

/-- Row `b`, column `q` of the block that grid point `t` leaves. -/
theorem outs_apply (t : Fin cfg0.N) (b q : Fin 128) (b' : Fin 1024) (hb : b'.val = 128 * t.val + b.val) :
    (outsAt0 m c t : FVec Ideal S128x128 .f32) (ix2 b q) = cell m c b' q := by
  rw [outs_eq, iblk1_eq, iblk2_eq, iblk3_eq, iblk4_eq, iblk5_eq, iblk6_eq, iblk7_eq, iblk8_eq, iblk9_eq, iblk10_eq,
    iblk11_eq]
  refine (pay12_apply _ _ _ _ _ _ _ _ _ b q).trans ?_
  unfold cell
  have e1 : (fun n : Fin 1024 => ∑ f : Fin 800,
        acts (iblk m c 0 t) (V m c main_v4) (V m c main_v6) (V m c main_v12) (ix2 b f)
          * (V m c main_v19 : FVec Ideal S800x1024 .f32) (ix2 f n) + (V m c main_v21 : FVec Ideal S1x1024 .f32) (ix2 (0 : Fin 1) n))
      = feat (m ((c : Thread nD τ).loc main_arg0)) (m ((c : Thread nD τ).loc main_arg1))
      (m ((c : Thread nD τ).loc main_arg2)) (m ((c : Thread nD τ).loc main_arg3)) b' :=
    funext fun n => feat_eq _ _ _ _ _ _ _ _ _ _ (v4_band m c) (v6_band m c) (v12_band m c) b b'
      (fun n => (iblk0_apply m c t b b' hb n).trans ((v20_apply m c b' n).trans (by unfold flat; rw [dif_pos n.isLt])))
      (v19_apply m c) (v21_apply m c) n
  have e2 : (fun p : Fin 15 => (V m c main_v22 : FVec Ideal S1x15 .f32) (ix2 (0 : Fin 1) p))
      = fun p => (m ((c : Thread nD τ).loc main_arg5) : FVec Ideal S15 .f32) (ix1 p) := funext (v22_apply m c)
  have e3 : (fun p : Fin 32 => (V m c main_v23 : FVec Ideal S1x32 .f32) (ix2 (0 : Fin 1) p))
      = fun p => (m ((c : Thread nD τ).loc main_arg7) : FVec Ideal S32 .f32) (ix1 p) := funext (v23_apply m c)
  rw [e1, e2, e3, v25_apply, V_main_arg4, V_main_arg6]

/-- The region's output array after the run. -/
theorem array_eq : (dats m 0 c).arrAt 12 cfg0.N
    = (fun i => cell m c (i 0) (i 1) : FVec Ideal S1024x128 .f32) := by
  refine (dats m 0 c).arrAt_eq_of_covers 12 _ (by decide +kernel) fun t hf y => ?_
  blk_simp
  rw [after0_12]
  have hN : t.val < 8 := t.isLt
  obtain ⟨e0, e1⟩ := index12 t
  have y0 : (y 0).val < 128 := (y 0).isLt
  have y1 : (y 1).val < 128 := (y 1).isLt
  refine Eq.trans (congrArg (outsAt0 m c t) (?_ : _ = ix2 (⟨(y 0).val, y0⟩ : Fin 128) (⟨(y 1).val, y1⟩ : Fin 128))) ?_
  · funext a; match a with
    | ⟨0, _⟩ => rfl
    | ⟨1, _⟩ => rfl
  · refine (outs_apply m c t _ _ (⟨128 * t.val + (y 0).val, by omega⟩ : Fin 1024) rfl).trans ?_
    refine congrArg₂ (cell m c) (Fin.ext ?_) (Fin.ext ?_)
    · show 128 * t.val + (y 0).val = win0_12.index t (0 : Fin 2) * 128 + 1 * (y 0).val; omega
    · show (y 1).val = win0_12.index t (1 : Fin 2) * 128 + 1 * (y 1).val; omega

/-- The program's result: the first column of the region's output array. -/
theorem result_apply (r : Fin 1024) :
    (Pipeline.afterTail₀ cfgs (dats m) 0 (V0 m) [hostOps1] c main_v27 : FVec Ideal S1024x1 .f32) (ix2 r (0 : Fin 1))
      = out (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9)) r := by
  have hw : Pipeline.withArrays spec0 c (V0 m c) (fun w => (dats m 0 c).arrAt w cfg0.N) (Proc.devRef .tc main_v26)
      = (fun i => cell m c (i 0) (i 1) : FVec Ideal S1024x128 .f32) :=
    (Pipeline.withArrays_arr spec0 (by decide) c (V0 m c) (fun w => (dats m 0 c).arrAt w cfg0.N) 12).trans (array_eq m c)
  unfold Pipeline.afterTail₀
  after_reads_at
  refine (congrFun hw (ix2 r (0 : Fin 128))).trans ?_
  show cell m c r (0 : Fin 128) = _
  unfold cell out
  have e : (fun k : Fin 32 => (V m c main_v24 : FVec Ideal S128x32 .f32) (ix2 (0 : Fin 128) k))
      = fun k => (m ((c : Thread nD τ).loc main_arg8) : FVec Ideal S1x32 .f32) (ix2 (0 : Fin 1) k) := funext (v24_apply m c)
  rw [e]

/-- Every run of the kernel program ends with its result at the network's output on its arguments, which stay as launched. -/
theorem run : θ_run defs (onTc (τ := τ) (main (F := Ideal))) ⟨m, fun _ => 0, ρ⟩ fun r => ∀ c : Dev nD,
    r.2.mem ((c : Thread nD τ).loc main_v27)
      = (fun i => out (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9)) (i 0) : FVec Ideal S1024x1 .f32)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9) := by
  refine (θ_run defs _ _).mono (fun r h c => ⟨?_,
    (h.rest_eq c main_arg0 (by decide)).trans (W_main_arg0 m (dats m) c),
    (h.rest_eq c main_arg1 (by decide)).trans (W_main_arg1 m (dats m) c),
    (h.rest_eq c main_arg2 (by decide)).trans (W_main_arg2 m (dats m) c),
    (h.rest_eq c main_arg3 (by decide)).trans (W_main_arg3 m (dats m) c),
    (h.in_eq c 6 rfl).trans ((A_eq m c 6).trans (V_main_arg4 m c)),
    (h.rest_eq c main_arg5 (by decide)).trans (W_main_arg5 m (dats m) c),
    (h.in_eq c 8 rfl).trans ((A_eq m c 8).trans (V_main_arg6 m c)),
    (h.rest_eq c main_arg7 (by decide)).trans (W_main_arg7 m (dats m) c),
    (h.rest_eq c main_arg8 (by decide)).trans (W_main_arg8 m (dats m) c),
    (h.rest_eq c main_arg9 (by decide)).trans (W_main_arg9 m (dats m) c)⟩) (run_main (F := Ideal) m ρ)
  refine (h.rest_eq c main_v27 (by decide)).trans ?_
  have hi : ∀ i : S1024x1.Idx, i = ix2 (i 0) (0 : Fin 1) := fun i => by
    funext a
    match a with
    | ⟨0, _⟩ => rfl
    | ⟨1, _⟩ => exact Fin.ext (by have h1 : (i 1).val < 1 := (i 1).isLt; show (i 1).val = 0; omega)
  exact funext fun i => (congrArg _ (hi i)).trans (result_apply m c (i 0))

end Cert.KernelIdeal.Net

end
-- ==== Proof.Ref.lean ====
/- The reference's result, read at an index, is the network's output. -/
module

public import proofs.«01_k».proof.Proof.Gen.ReferenceIdeal.Read
public import proofs.«01_k».proof.Proof.Spec
public import proofs.«01_k».proof.Proof.Sums

@[expose] public section

set_option maxRecDepth 16384

noncomputable section

namespace Cert.ReferenceIdeal.Net

open Cert.ReferenceIdeal Cert.ReferenceIdeal.Gen Cert.ReferenceIdeal.Read Cert.Net Idealize.ShloMosaic Idealize.ShloMosaic.TcCoe

variable (x0 : FVec Ideal S1024x3x96x96 .f32) (x1 : FVec Ideal S8x3x3x3 .f32) (x2 : FVec Ideal S800x1024 .f32)
  (x3 : FVec Ideal S1024 .f32) (x4 : FVec Ideal S15x1024 .f32) (x5 : FVec Ideal S15 .f32) (x6 : FVec Ideal S32x15 .f32)
  (x7 : FVec Ideal S32 .f32) (x8 : FVec Ideal S1x32 .f32) (x9 : FVec Ideal S1 .f32)

/-- The bordered image. -/
theorem v0_apply (b : Fin 1024) (ch : Fin 3) (y x : Fin 100) :
    val_main_v0 (F := Ideal) x0 (ix4 b ch y x) = padded x0 b ch y.val x.val := by
  unfold val_main_v0 val_main_call0_v0 val_main_c
  pointwise
  unfold padded
  by_cases h : (1 ≤ y.val ∧ y.val < 97) ∧ (1 ≤ x.val ∧ x.val < 97)
  · rw [dif_pos h, dif_pos (by omega)]
  · rw [dif_neg h, dif_neg (by omega), sitofp_zero]

/-- Entry `n` of the window at position `(i, j)`: channel, window row and window column, in this order. -/
theorem v4_apply (b : Fin 1024) (i j : Fin 10) (n : Fin 27) :
    val_main_v4 (F := Ideal) x0 (ix4 b i j n)
      = padded x0 b (⟨n.val / 9, by omega⟩ : Fin 3) (i.val * 10 + n.val / 3 % 3) (j.val * 10 + n.val % 3) := by
  have h : ∀ (ch : Fin 3) (y x : Fin 100), val_main_v0 (F := Ideal) x0 (ix4 b ch y x) = padded x0 b ch y.val x.val :=
    v0_apply x0 b
  revert h
  unfold val_main_v4 val_main_v3 val_main_v2 val_main_v1
  generalize val_main_v0 (F := Ideal) x0 = P
  intro h
  pointwise
  exact h _ _ _

/-- The reference's product over 27 entries is the convolution. -/
theorem v8_apply (b : Fin 1024) (o : Fin 8) (i j : Fin 10) :
    val_main_v8 (F := Ideal) x0 x1 (ix4 b o i j) = conv x0 x1 b o i j := by
  have h : ∀ n : Fin 27, val_main_v4 (F := Ideal) x0 (ix4 b i j n)
      = padded x0 b (⟨n.val / 9, by omega⟩ : Fin 3) (i.val * 10 + n.val / 3 % 3) (j.val * 10 + n.val % 3) :=
    v4_apply x0 b i j
  revert h
  unfold val_main_v8 val_main_v7 val_main_v6 val_main_v5
  generalize val_main_v4 (F := Ideal) x0 = P
  intro h
  pointwise
  simp only [h]
  unfold conv
  rw [sum_blocks 3 9 rfl]
  refine Finset.sum_congr rfl fun ch _ => ?_
  rw [sum_blocks 3 3 rfl]
  refine Finset.sum_congr rfl fun r _ => Finset.sum_congr rfl fun x _ => ?_
  have e1 : (9 * ch.val + (3 * r.val + x.val)) / 9 = ch.val := by omega
  have e2 : (9 * ch.val + (3 * r.val + x.val)) / 3 % 3 = r.val := by omega
  have e3 : (9 * ch.val + (3 * r.val + x.val)) % 3 = x.val := by omega
  dsimp only
  simp only [e1, e2, e3, Nat.mul_comm _ 10]

/-- The activations, channel-major. -/
theorem v23_apply (b : Fin 1024) (f : Fin 800) : val_main_v23 (F := Ideal) x0 x1 (ix2 b f)
    = act (conv x0 x1 b (⟨f.val / 100, by omega⟩ : Fin 8) (⟨f.val / 10 % 10, by omega⟩ : Fin 10)
      (⟨f.val % 10, by omega⟩ : Fin 10)) := by
  rw [← v8_apply]
  unfold val_main_v23 val_main_v22 val_main_v21 val_main_v20 val_main_call2_v1 val_main_call2_v0 val_main_cst_6
    val_main_cst_5 val_main_v19 val_main_v18 val_main_cst_4 val_main_v17 val_main_v16 val_main_cst_3 val_main_v15
    val_main_v14 val_main_v13 val_main_v12 val_main_cst_2 val_main_v11 val_main_v10 val_main_cst_1 val_main_v9
    val_main_call1_v4 val_main_call1_v3 val_main_call1_v2 val_main_call1_v1 val_main_call1_v0 val_main_cst val_main_cst_0
  generalize val_main_v8 (F := Ideal) x0 x1 = P
  simp only [id]
  pointwise
  unfold act steep clip Ideal.logistic
  pointwise

/-- The features. -/
theorem v27_apply (b : Fin 1024) (n : Fin 1024) :
    val_main_v27 (F := Ideal) x0 x1 x2 x3 (ix2 b n) = feat x0 x1 x2 x3 b n := by
  unfold feat
  simp only [← v23_apply]
  unfold val_main_v27 val_main_v24 val_main_v26 val_main_v25
  generalize val_main_v23 (F := Ideal) x0 x1 = P
  pointwise

/-- The halves multiplied and joined. -/
theorem v34_apply (b : Fin 1024) (n : Fin 1024) : val_main_v34 (F := Ideal) x0 x1 x2 x3 (ix2 b n)
    = halves (fun n => val_main_v27 (F := Ideal) x0 x1 x2 x3 (ix2 b n)) n := by
  unfold val_main_v34 val_main_v33 val_main_v32 val_main_v31 val_main_v30 val_main_v29 val_main_v28 val_main_cst_9
    val_main_call3_v4 val_main_call3_v3 val_main_call3_v2 val_main_call3_v1 val_main_call3_v0 val_main_cst_7 val_main_cst_8
  generalize val_main_v27 (F := Ideal) x0 x1 x2 x3 = P
  simp only [id]
  pointwise
  unfold halves clamp
  rfl

/-- The three dense layers. -/
theorem v51_apply (b : Fin 1024) : val_main_v51 (F := Ideal) x0 x1 x2 x3 x4 x5 x6 x7 x8 x9 (ix2 b (0 : Fin 1))
    = ∑ k : Fin 32, max (∑ p : Fin 15, max (∑ n : Fin 1024,
        val_main_v34 (F := Ideal) x0 x1 x2 x3 (ix2 b n) * x4 (ix2 p n)
      + x5 (ix1 p)) 0 * x6 (ix2 k p) + x7 (ix1 k)) 0 * x8 (ix2 (0 : Fin 1) k) + x9 (ix1 (0 : Fin 1)) := by
  unfold val_main_v51 val_main_v50 val_main_v49 val_main_v48 val_main_v47 val_main_v46 val_main_call5_v0 val_main_call5_cst
    val_main_v45 val_main_v44 val_main_v43 val_main_v42 val_main_v41 val_main_v40 val_main_call4_v0 val_main_call4_cst
    val_main_v39 val_main_v38 val_main_v37 val_main_v36 val_main_v35
  generalize val_main_v34 (F := Ideal) x0 x1 x2 x3 = P
  pointwise

/-- The reference's result for image `b`. -/
theorem result_apply (b : Fin 1024) : val_main_v51 (F := Ideal) x0 x1 x2 x3 x4 x5 x6 x7 x8 x9 (ix2 b (0 : Fin 1))
    = out x0 x1 x2 x3 x4 x5 x6 x7 x8 x9 b := by
  have hg : (fun n => val_main_v27 (F := Ideal) x0 x1 x2 x3 (ix2 b n)) = feat x0 x1 x2 x3 b :=
    funext (v27_apply x0 x1 x2 x3 b)
  have hv : ∀ n : Fin 1024, val_main_v34 (F := Ideal) x0 x1 x2 x3 (ix2 b n) = halves (feat x0 x1 x2 x3 b) n :=
    fun n => (v34_apply x0 x1 x2 x3 b n).trans (congrArg (halves · n) hg)
  refine (v51_apply x0 x1 x2 x3 x4 x5 x6 x7 x8 x9 b).trans ?_
  unfold out dense
  simp only [hv]

/-- The reference's result is the network's output. -/
theorem result_eq : (val_main_v51 (F := Ideal) x0 x1 x2 x3 x4 x5 x6 x7 x8 x9 : FVec Ideal S1024x1 .f32)
    = fun i => out x0 x1 x2 x3 x4 x5 x6 x7 x8 x9 (i 0) := by
  have hi : ∀ i : S1024x1.Idx, i = ix2 (i 0) (0 : Fin 1) := fun i => by
    funext a
    match a with
    | ⟨0, _⟩ => rfl
    | ⟨1, _⟩ => exact Fin.ext (by have h1 : (i 1).val < 1 := (i 1).isLt; show (i 1).val = 0; omega)
  exact funext fun i => (congrArg _ (hi i)).trans (result_apply x0 x1 x2 x3 x4 x5 x6 x7 x8 x9 (i 0))

end Cert.ReferenceIdeal.Net

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- Every run of the reference ends with its arguments as launched and every semaphore counter at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- From equal arguments the kernel and the reference end with equal results over the extended reals. -/
theorem equal_results : Cert.algebraic_KernelIdeal_ReferenceIdeal (hKernelIdeal := Cert.KernelIdeal.Gen.facts)
    (hReferenceIdeal := Cert.ReferenceIdeal.Gen.facts) := by
  intro m ρ m' ρ' _ hagree
  refine ⟨fun c => _, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  refine (Cert.ReferenceIdeal.Read.val_main_v51_eq m' c).trans ((Cert.ReferenceIdeal.Net.result_eq _ _ _ _ _ _ _ _ _ _).trans ?_)
  rw [h0, h1, h2, h3, h4, h5, h6, h7, h8, h9]

/-- All the claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial,
    equal_results⟩

end Cert.Proof

end
